-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4 : Shape := ⟨2, ![8192, 4]⟩
abbrev S8192x3 : Shape := ⟨2, ![8192, 3]⟩
abbrev S3x8192 : Shape := ⟨2, ![3, 8192]⟩
abbrev S1x1 : Shape := ⟨2, ![1, 1]⟩
abbrev S1x8192 : Shape := ⟨2, ![1, 8192]⟩
abbrev S256x1 : Shape := ⟨2, ![256, 1]⟩
abbrev S256x8192 : Shape := ⟨2, ![256, 8192]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S8192 : Shape := ⟨1, ![8192]⟩
abbrev S1x1x8192 : Shape := ⟨3, ![1, 1, 8192]⟩
abbrev S_ : Shape := ⟨0, ![]⟩

abbrev nBuf : Space → Nat
  | .hbm => 7
  | .vmem => 3
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S8192x3, .f32⟩
  | .hbm, ⟨3, _⟩ => ⟨S8192x3, .f32⟩
  | .hbm, ⟨4, _⟩ => ⟨S3x8192, .f32⟩
  | .hbm, ⟨5, _⟩ => ⟨S1x1, .f32⟩
  | .hbm, ⟨6, _⟩ => ⟨S_, .f32⟩
  | .local _ .vmem, ⟨0, _⟩ => ⟨S8192x3, .f32⟩
  | .local _ .vmem, ⟨1, _⟩ => ⟨S3x8192, .f32⟩
  | .local _ .vmem, ⟨2, _⟩ => ⟨S1x1, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v18 : BitVec 32 := Scalar.addi c0_i32 c32_i32
  let c1_i32 : BitVec 32 := 1#32
  ⟨c0_i32, v18, c1_i32⟩
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c256_i32 : BitVec 32 := 256#32
  let v29 : BitVec 32 := Scalar.muli arg3 c256_i32
  let v30 : Index := Scalar.indexCast v29
  let c0_10 : Index := 0#32
  ![v30.toNat, 0]
def k0_off2 (k0_t1 : Fin k0_t1_loop.trips) : Fin 2 → Nat :=
  let c0_i32 : BitVec 32 := 0#32
  let c1_i32 : BitVec 32 := 1#32
  let arg3 : BitVec 32 := Scf.iv c0_i32 c1_i32 k0_t1
  let c256_i32 : BitVec 32 := 256#32
  let v29 : BitVec 32 := Scalar.muli arg3 c256_i32
  let v33 : Index := Scalar.indexCast v29
  let c1_11 : Index := 1#32
  ![v33.toNat, 1]
def k0_off3 (k0_t1 : Fin k0_t1_loop.trips) : Fin 2 → Nat :=
  let c0_i32 : BitVec 32 := 0#32
  let c1_i32 : BitVec 32 := 1#32
  let arg3 : BitVec 32 := Scf.iv c0_i32 c1_i32 k0_t1
  let c256_i32 : BitVec 32 := 256#32
  let v29 : BitVec 32 := Scalar.muli arg3 c256_i32
  let v36 : Index := Scalar.indexCast v29
  let c2_12 : Index := 2#32
  ![v36.toNat, 2]
abbrev stage0_0 : Fin 1 → Memref sig .tc .vmem S8192x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x4 : Shape := ⟨2, ![8192, 4]⟩
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S8192x3, .f32⟩
  | .hbm, ⟨3, _⟩ => ⟨S8192x3, .f32⟩
  | .hbm, ⟨4, _⟩ => ⟨S8192x3, .f32⟩
  | .hbm, ⟨5, _⟩ => ⟨S_, .f32⟩
  | .hbm, ⟨6, _⟩ => ⟨S8192, .f32⟩
  | .hbm, ⟨7, _⟩ => ⟨S8192x3, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S3x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.Val.Trip.lean ====
/-
  WHAT THE KERNEL'S RUN COMPUTES, as terms of the two blocks it holds: one trip of its loop (a tile of 256 points
  against all 8192), and the scalar block it stores after the loop.
-/
module

public import proofs.«01_k».proof.Proof.Gen.KernelIdeal.Frame
public import Idealize.ShloMosaic.Lib.Pipeline.Value
public import Idealize.ShloMosaic.Lib.Tactic

@[expose] public section

noncomputable section

namespace Cert.KernelIdeal.Val

open Cert.KernelIdeal Cert.KernelIdeal.Gen Idealize.ShloMosaic Idealize.ShloMosaic.TcCoe Idealize.SL.Sem

variable {F : FTy → Type} [FloatOps F]

/-- First coordinate of the 256 points that trip `k` reads. -/
abbrev colX (x : Vec F S8192x3 .f32) (k : Fin k0_t1_loop.trips) : Vec F S256x1 .f32 :=
  View.ld x (Rect.unit (k0_off1 k) S256x1.size (k0_off1_inb k))

/-- Second coordinate of those points. -/
abbrev colY (x : Vec F S8192x3 .f32) (k : Fin k0_t1_loop.trips) : Vec F S256x1 .f32 :=
  View.ld x (Rect.unit (k0_off2 k) S256x1.size (k0_off2_inb k))

/-- Third coordinate of those points. -/
abbrev colZ (x : Vec F S8192x3 .f32) (k : Fin k0_t1_loop.trips) : Vec F S256x1 .f32 :=
  View.ld x (Rect.unit (k0_off3 k) S256x1.size (k0_off3_inb k))

/-- First coordinate of all points of the second cloud: row 0 of the transposed block. -/
abbrev rowX (y : Vec F S3x8192 .f32) : Vec F S1x8192 .f32 := View.ld y (Rect.unit ![0, 0] ![1, 8192] inb_S3x8192_S1x8192_0_0)

/-- Second coordinate: row 1. -/
abbrev rowY (y : Vec F S3x8192 .f32) : Vec F S1x8192 .f32 := View.ld y (Rect.unit ![1, 0] ![1, 8192] inb_S3x8192_S1x8192_1_0)

/-- Third coordinate: row 2. -/
abbrev rowZ (y : Vec F S3x8192 .f32) : Vec F S1x8192 .f32 := View.ld y (Rect.unit ![2, 0] ![1, 8192] inb_S3x8192_S1x8192_2_0)

/-- One trip: the carried sum takes in the tile's row minima, the carried vector of column minima the tile's column
    minima; the tile is built from the three columns the trip loads. -/
theorem tripR_eq (𝒱 : Variants) (c : Dev nD) (bd : Option 𝒱.V) (a0 : Memref sig .tc .vmem S8192x3 .f32) (h0 : a0.IsWhole)
    (a1 : Memref sig .tc .vmem S3x8192 .f32) (h1 : a1.IsWhole) (a2 : Memref sig .tc .vmem S1x1 .f32) (h2 : a2.IsWhole)
    (v0 v2 v4 : Vec F S1x8192 .f32) (x : Vec F S8192x3 .f32) (k : Fin k0_t1_loop.trips) (acc : F .f32 × FVec F S1x8192 .f32) :
    tripR_k0_t1 𝒱 c bd a0 h0 a1 h1 a2 h2 v0 v2 v4 (h0.unread x) k acc
      = (k0_pay11 (k0_pay4 v0 v2 v4) (k0_pay5 v0) (k0_pay6 v2) (k0_pay7 v4) acc.1 (colX x k) (colY x k) (colZ x k),
         k0_pay12 (k0_pay4 v0 v2 v4) (k0_pay5 v0) (k0_pay6 v2) (k0_pay7 v4) acc.2 (colX x k) (colY x k) (colZ x k)) := by
  unfold tripR_k0_t1 trip_k0_t1
  dsimp only
  sl_unfold_words
  simp only [View.readAt_eq_ld, h0.read_unread]
  rfl

theorem hz : (![0, 0] : Fin 2 → Nat) = fun _ => 0 := funext fun a => by fin_cases a <;> rfl

/-- What the loop carries after `k` trips, on the input blocks `x` and `y`. -/
abbrev carried (c : Dev nD) (a0 : Memref sig .tc .vmem S8192x3 .f32) (h0 : a0.IsWhole) (a1 : Memref sig .tc .vmem S3x8192 .f32)
    (h1 : a1.IsWhole) (a2 : Memref sig .tc .vmem S1x1 .f32) (h2 : a2.IsWhole) (x : Vec F S8192x3 .f32) (y : Vec F S3x8192 .f32)
    (k : ℕ) : F .f32 × FVec F S1x8192 .f32 :=
  st_k0_t1 Variants.none c none a0 h0 a1 h1 a2 h2 (rowX y) (rowY y) (rowZ y) (h0.unread x)
    (FloatOps.ofBits FTy.f32 0#32, k0_pay8) k

/-- The block the kernel stores: its last payload at what the loop carries at its end. -/
theorem out_eq (c : Dev nD) (a0 : Memref sig .tc .vmem S8192x3 .f32) (h0 : a0.IsWhole) (a1 : Memref sig .tc .vmem S3x8192 .f32)
    (h1 : a1.IsWhole) (a2 : Memref sig .tc .vmem S1x1 .f32) (h2 : a2.IsWhole) (x : Vec F S8192x3 .f32) (y : Vec F S3x8192 .f32) :
    out0_A_2 c a0 h0 a1 h1 a2 h2 x y
      = k0_pay9 (carried c a0 h0 a1 h1 a2 h2 x y k0_t1_loop.trips).1 (carried c a0 h0 a1 h1 a2 h2 x y k0_t1_loop.trips).2 := by
  unfold out0_A_2
  rw [View.read_writes_eq_canon _ _ _ (cover0_A_2 c a0 h0 a1 h1 a2 h2 x y)]
  unfold kernelRun0_A
  dsimp only
  sl_unfold_words
  rw [View.canon_unit_zero hz]
  simp only [View.readAt_eq_ld, h1.read_unread]

end Cert.KernelIdeal.Val

end
-- ==== Proof.Val.Chamfer.lean ====
/-
  THE MATHEMATICS: the chamfer loss of two clouds of 8192 points over the extended reals, and the two regroupings that
  reading one cloud in 32 blocks of 256 points needs (a sum block by block, a minimum block by block).
-/
module

public import Idealize.ShloMosaic.PureOps.Ideal.Laws

@[expose] public section

noncomputable section

namespace Cert.Chamfer

open Idealize.ShloMosaic

/-- A cloud of 8192 points with three coordinates each. -/
abbrev Cloud : Type := Fin 8192 → Fin 3 → EReal

/-- The squared length of point `i`. -/
def sqLen (P : Cloud) (i : Fin 8192) : EReal := P i 0 * P i 0 + P i 1 * P i 1 + P i 2 * P i 2

/-- The inner product of point `i` of one cloud with point `j` of the other. -/
def inner (P T : Cloud) (i j : Fin 8192) : EReal := P i 0 * T j 0 + P i 1 * T j 1 + P i 2 * T j 2

/-- The squared distance as both programs expand it: the two squared lengths less twice the inner product, cut off
    below at zero. The factor two is the f32 pattern both programs carry. -/
def dist (P T : Cloud) (i j : Fin 8192) : EReal :=
  max (sqLen P i + sqLen T j - Ideal.ofBits .f32 0x40000000#32 * inner P T i j) 0

/-- The squared distance from point `i` of `P` to the cloud `T`. -/
def toT (P T : Cloud) (i : Fin 8192) : EReal := Finset.univ.inf fun j : Fin 8192 => dist P T i j

/-- The squared distance from point `j` of `T` to the cloud `P`. -/
def toP (P T : Cloud) (j : Fin 8192) : EReal := Finset.univ.inf fun i : Fin 8192 => dist P T i j

/-- The chamfer loss: the mean of the distances from `P` to `T` plus the mean of those from `T` to `P`. The divisor
    8192 is the f32 pattern both programs carry. -/
def loss (P T : Cloud) : EReal :=
  Ideal.div (∑ i : Fin 8192, toT P T i) (Ideal.ofBits .f32 0x46000000#32)
    + Ideal.div (∑ j : Fin 8192, toP P T j) (Ideal.ofBits .f32 0x46000000#32)

/-- The f32 pattern of `+∞`, from which both programs start every minimum, is the top of the extended reals. -/
theorem inf_pattern : Ideal.ofBits .f32 0x7F800000#32 = ⊤ := by simp [Ideal.ofBits, Ideal.ieee]

/-- A fold of `min` from `+∞` is the infimum. -/
theorem fold_min {ι : Type} (s : Finset ι) (f : ι → EReal) :
    s.fold (FloatOps.minimumf (F := Ideal) (φ := .f32)) (Ideal.ofBits .f32 0x7F800000#32) f = s.inf f := by
  rw [inf_pattern]; rfl

/-! ## Blocks of 256 points -/

/-- Point `r` of block `q`. -/
def point (q : Fin 32) (r : Fin 256) : Fin 8192 := ⟨256 * q.val + r.val, by omega⟩

/-- Every point is one of a block. -/
theorem exists_point (i : Fin 8192) : ∃ q r, point q r = i :=
  ⟨⟨i.val / 256, by omega⟩, ⟨i.val % 256, by omega⟩, Fin.ext (Nat.div_add_mod i.val 256)⟩

/-- A sum over all points, block by block. -/
theorem sum_blocks (f : Fin 8192 → EReal) : ∑ i, f i = ∑ q : Fin 32, ∑ r : Fin 256, f (point q r) := by
  rw [← Fintype.sum_prod_type' fun (q : Fin 32) (r : Fin 256) => f (point q r)]
  refine (Fintype.sum_equiv (finProdFinEquiv (m := 32) (n := 256)) _ f fun x => congrArg f (Fin.ext ?_)).symm
  exact Nat.add_comm _ _

/-- A minimum over all points, block by block. -/
theorem inf_blocks (f : Fin 8192 → EReal) :
    Finset.univ.inf f = Finset.univ.inf fun q : Fin 32 => Finset.univ.inf fun r : Fin 256 => f (point q r) := by
  refine le_antisymm ?_ ?_
  · exact Finset.le_inf fun q _ => Finset.le_inf fun r _ => Finset.inf_le (Finset.mem_univ _)
  · refine Finset.le_inf fun i _ => ?_
    obtain ⟨q, r, rfl⟩ := exists_point i
    exact (Finset.inf_le (Finset.mem_univ q)).trans
      (Finset.inf_le (f := fun r : Fin 256 => f (point q r)) (Finset.mem_univ r))

/-! ## The blocks already read -/

/-- The blocks before block `k`. -/
def before (k : ℕ) : Finset (Fin 32) := Finset.univ.filter fun q => q.val < k

theorem before_zero : before 0 = ∅ := Finset.filter_eq_empty_iff.2 fun _ _ => Nat.not_lt_zero _

theorem before_succ (k : Fin 32) : before (k.val + 1) = insert k (before k.val) := by
  ext q
  simp only [before, Finset.mem_filter, Finset.mem_univ, true_and, Finset.mem_insert, Fin.ext_iff]
  omega

theorem not_mem_before (k : Fin 32) : k ∉ before k.val := by simp [before]

theorem before_all : before 32 = Finset.univ := Finset.filter_true_of_mem fun q _ => q.isLt

/-- The running sum takes block `k` in. -/
theorem sum_before_succ (k : Fin 32) (g : Fin 32 → EReal) :
    ∑ q ∈ before (k.val + 1), g q = ∑ q ∈ before k.val, g q + g k := by
  rw [before_succ, Finset.sum_insert (not_mem_before k), add_comm]

/-- The running minimum takes block `k` in. -/
theorem inf_before_succ (k : Fin 32) (g : Fin 32 → EReal) :
    (before (k.val + 1)).inf g = min ((before k.val).inf g) (g k) := by
  rw [before_succ, Finset.inf_insert]
  exact min_comm _ _

end Cert.Chamfer

end
-- ==== Proof.Val.Tile.lean ====
/-
  THE KERNEL'S VECTOR CODE OVER THE EXTENDED REALS, read at an index: a tile of squared distances, its row and column
  minima, and the two means of the last payload.
-/
module

public import proofs.«01_k».proof.Proof.Val.Chamfer
public import proofs.«01_k».proof.Proof.Gen.KernelIdeal.Frame
public import Idealize.ShloMosaic.Lib.Pipeline.Value
public import Idealize.ShloMosaic.Lib.ValueIdx
public import Idealize.ShloMosaic.Lib.ValueIdxRank1
public import Idealize.ShloMosaic.Lib.ValueLayout
public import Idealize.ShloMosaic.Lib.ValueLayoutCasts

@[expose] public section

noncomputable section

namespace Cert.KernelIdeal.Val

open Cert.KernelIdeal Cert.KernelIdeal.Gen Idealize.ShloMosaic Idealize.ShloMosaic.ValueIdx

/-! ## Layout -/

/-- One column broadcast over many reads, at `(p, q)`, the column at `p`. -/
theorem broadcastTo_column {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A shape cast moves no value, so it keeps the sum of all of them. -/
theorem sum_shapeCast {s t : Shape} (x : s.Idx → EReal) (h : s.ShapeCasts t) : ∑ j, shapeCast t x h j = ∑ i, x i :=
  Equiv.sum_comp (Shape.reshapeEquiv h) x

/-- The sum of a vector's entries over its index set is the sum over its one coordinate. -/
theorem sum_vector {n : ℕ} (x : (⟨1, ![n]⟩ : Shape).Idx → EReal) : ∑ i, x i = ∑ k : Fin n, x (ix1 k) :=
  (Equiv.sum_comp (idxEquiv1 (n := n)).symm x).symm

/-- The sum of a one-row array's entries is the sum along the row. -/
theorem sum_row {n : ℕ} (x : (⟨2, ![1, n]⟩ : Shape).Idx → EReal) : ∑ i, x i = ∑ k : Fin n, x (ix2 (0 : Fin 1) k) := by
  rw [sum_idx2]; exact Fin.sum_univ_one _

/-- A sum over every axis, taken out as a scalar, is the sum of all entries. -/
theorem extract_sum {s : Shape} {axes : List (Fin s.rank)} (x : FVec Ideal s .f32) (h : s.Reduces axes S1)
    (hφ : FKind.Formats .f32) (hacc : (0x00000000#32 : BitVec 32) = FKind.add.neutral .f32 hφ) (hc : S1.ShapeCasts S1x1x1)
    (hp : ∀ a, (![0, 0, 0] : Fin 3 → ℕ) a < S1x1x1.size a) :
    extractAt ![0, 0, 0] (shapeCast S1x1x1 (multiReduction .add axes S1 x 0x00000000#32 h hφ hacc) hc) hp = ∑ i, x i :=
  Ideal.multiReduction_add_total x _ h (fun b => by fin_cases b; rfl) hφ hacc _

/-! ## The tile -/

section Tile

variable (sq px py pz : FVec Ideal S1x8192 .f32) (a b d : Vec Ideal S256x1 .f32)

/-- Entry `(r, j)` of the tile from the row `sq` of squared lengths, the rows `px py pz` of coordinates and the columns
    `a b d` of coordinates. -/
theorem tile_apply (r : Fin 256) (j : Fin 8192) :
    k0_pay10 sq px py pz a b d (ix2 r j)
      = max ((a (ix2 r 0) * a (ix2 r 0) + b (ix2 r 0) * b (ix2 r 0) + d (ix2 r 0) * d (ix2 r 0)) + sq (ix2 0 j)
          - Ideal.ofBits .f32 0x40000000#32
            * (a (ix2 r 0) * px (ix2 0 j) + b (ix2 r 0) * py (ix2 0 j) + d (ix2 r 0) * pz (ix2 0 j))) 0 := by
  unfold k0_pay10
  simp only [maximumf_apply, subf_apply, addf_apply, mulf_apply, broadcast_apply, broadcastTo_column,
    broadcastTo_1b_ab_apply, extf_apply, truncf_apply, shapeCast_self]
  rw [show (Scalar.ofBits .f32 0x00000000#32 : Ideal .f32) = 0 from Ideal.ofBits_zero_f32]
  rfl

/-- The minimum of an array's row `r`. -/
theorem rowMin_apply (x : FVec Ideal S256x8192 .f32) (h : S256x8192.Reduces [1] S256) (hφ : FKind.Formats .f32)
    (hacc : (0x7F800000#32 : BitVec 32) = FKind.minimumf.neutral .f32 hφ) (r : Fin 256) :
    multiReduction .minimumf [1] S256 x 0x7F800000#32 h hφ hacc (ix1 r)
      = Finset.univ.inf fun j : Fin 8192 => x (ix2 r j) := by
  rw [multiReduction_minimumf_eq_fold, h.fold_filter_drop_single]
  refine (Chamfer.fold_min _ _).trans (Finset.inf_congr rfl fun j _ => congrArg x (funext fun c => ?_))
  match c with
  | ⟨0, _⟩ => rfl
  | ⟨1, _⟩ => rfl

/-- The minimum of an array's column `j`. -/
theorem colMin_apply (x : FVec Ideal S256x8192 .f32) (h : S256x8192.Reduces [0] S8192) (hφ : FKind.Formats .f32)
    (hacc : (0x7F800000#32 : BitVec 32) = FKind.minimumf.neutral .f32 hφ) (j : Fin 8192) :
    multiReduction .minimumf [0] S8192 x 0x7F800000#32 h hφ hacc (ix1 j)
      = Finset.univ.inf fun r : Fin 256 => x (ix2 r j) := by
  rw [multiReduction_minimumf_eq_fold, h.fold_filter_drop_single]
  refine (Chamfer.fold_min _ _).trans (Finset.inf_congr rfl fun r _ => congrArg x (funext fun c => ?_))
  match c with
  | ⟨0, _⟩ => rfl
  | ⟨1, _⟩ => rfl

/-- The trip's new sum: the old one plus the sum of the tile's row minima. -/
theorem sum_step (s : EReal) :
    k0_pay11 sq px py pz s a b d
      = s + ∑ r : Fin 256, Finset.univ.inf fun j : Fin 8192 => k0_pay10 sq px py pz a b d (ix2 r j) := by
  unfold k0_pay11
  refine congrArg (s + ·) ?_
  refine (extract_sum _ _ (.inl rfl) rfl _ _).trans ?_
  rw [sum_shapeCast, sum_shapeCast, sum_vector]
  exact Finset.sum_congr rfl fun r _ => rowMin_apply _ _ _ _ r

/-- The trip's new column minimum `j`: the lesser of the old one and the tile's. -/
theorem min_step (v : FVec Ideal S1x8192 .f32) (j : Fin 8192) :
    k0_pay12 sq px py pz v a b d (ix2 0 j)
      = min (v (ix2 0 j)) (Finset.univ.inf fun r : Fin 256 => k0_pay10 sq px py pz a b d (ix2 r j)) := by
  unfold k0_pay12
  refine congrArg (min (v (ix2 0 j))) ?_
  rw [shapeCast_a_1a_apply]
  exact colMin_apply _ _ _ _ j

end Tile

/-! ## The rows computed before the loop, and the payload after it -/

/-- The row of squared lengths. -/
theorem sq_apply (x y z : Vec Ideal S1x8192 .f32) (j : Fin 8192) :
    k0_pay4 x y z (ix2 0 j)
      = x (ix2 0 j) * x (ix2 0 j) + y (ix2 0 j) * y (ix2 0 j) + z (ix2 0 j) * z (ix2 0 j) := by
  unfold k0_pay4 k0_pay1 k0_pay2 k0_pay3
  simp only [addf_apply, mulf_apply, shapeCast_self]

/-- A row narrowed to half precision and widened again is the row: over the extended reals neither step rounds. -/
theorem x_apply (x : Vec Ideal S1x8192 .f32) : k0_pay5 x = x := by
  unfold k0_pay5 k0_pay1
  simp only [shapeCast_self]
  rfl

theorem y_apply (x : Vec Ideal S1x8192 .f32) : k0_pay6 x = x := by
  unfold k0_pay6 k0_pay2
  simp only [shapeCast_self]
  rfl

theorem z_apply (x : Vec Ideal S1x8192 .f32) : k0_pay7 x = x := by
  unfold k0_pay7 k0_pay3
  simp only [shapeCast_self]
  rfl

/-- The vector of column minima starts at `+∞`. -/
theorem start_apply (j : S1x8192.Idx) : k0_pay8 (F := Ideal) j = ⊤ := Chamfer.inf_pattern

/-- The stored block: the carried sum over 8192 plus the sum of the carried column minima over 8192. -/
theorem last_apply (s : EReal) (v : FVec Ideal S1x8192 .f32) (i : S1x1.Idx) :
    k0_pay9 s v i = Ideal.div s (Ideal.ofBits .f32 0x46000000#32)
      + Ideal.div (∑ j : Fin 8192, v (ix2 0 j)) (Ideal.ofBits .f32 0x46000000#32) := by
  unfold k0_pay9
  refine congrArg (fun t => Ideal.div s (Ideal.ofBits .f32 0x46000000#32) + Ideal.div t (Ideal.ofBits .f32 0x46000000#32)) ?_
  refine (extract_sum _ _ (.inl rfl) rfl _ _).trans ?_
  rw [sum_shapeCast, sum_row]

end Cert.KernelIdeal.Val

end
-- ==== Proof.Val.Loop.lean ====
/-
  THE LOOP: after `k` of its 32 trips it carries the sum of the distances from the points of the first `k` blocks to the
  second cloud, and for each point of the second cloud its least distance to those blocks. So the block stored after the
  loop is the chamfer loss.
-/
module

public import proofs.«01_k».proof.Proof.Val.Trip
public import proofs.«01_k».proof.Proof.Val.Tile

@[expose] public section

noncomputable section

namespace Cert.KernelIdeal.Val

open Cert.KernelIdeal Cert.KernelIdeal.Gen Cert.Chamfer Idealize.ShloMosaic Idealize.ShloMosaic.ValueIdx

/-- The cloud a block of rows of coordinates holds. -/
def cloud (x : Vec Ideal S8192x3 .f32) : Cloud := fun i a => x (ix2 i a)

/-- The cloud a transposed block holds. -/
def cloudT (y : Vec Ideal S3x8192 .f32) : Cloud := fun j a => y (ix2 a j)

/-- The loop makes 32 trips. -/
theorem trips_eq : k0_t1_loop.trips = 32 := by decide +kernel

/-- The block of points that trip `k` reads. -/
abbrev block (k : Fin k0_t1_loop.trips) : Fin 32 := k.cast trips_eq

section Loads

variable (x : Vec Ideal S8192x3 .f32) (y : Vec Ideal S3x8192 .f32)

theorem colX_apply (k : Fin k0_t1_loop.trips) (r : Fin 256) : colX x k (ix2 r 0) = cloud x (point (block k) r) 0 := by
  unfold colX
  rw [View.ld_unit]
  refine extractStridedSlice_apply _ _ _ _ _ fun a => ?_
  refine Eq.trans ?_ (congrArg (· + _) (congrFun (k0_off1_eq k) a).symm)
  match a with
  | ⟨0, _⟩ => rfl
  | ⟨1, _⟩ => rfl

theorem colY_apply (k : Fin k0_t1_loop.trips) (r : Fin 256) : colY x k (ix2 r 0) = cloud x (point (block k) r) 1 := by
  unfold colY
  rw [View.ld_unit]
  refine extractStridedSlice_apply _ _ _ _ _ fun a => ?_
  refine Eq.trans ?_ (congrArg (· + _) (congrFun (k0_off2_eq k) a).symm)
  match a with
  | ⟨0, _⟩ => rfl
  | ⟨1, _⟩ => rfl

theorem colZ_apply (k : Fin k0_t1_loop.trips) (r : Fin 256) : colZ x k (ix2 r 0) = cloud x (point (block k) r) 2 := by
  unfold colZ
  rw [View.ld_unit]
  refine extractStridedSlice_apply _ _ _ _ _ fun a => ?_
  refine Eq.trans ?_ (congrArg (· + _) (congrFun (k0_off3_eq k) a).symm)
  match a with
  | ⟨0, _⟩ => rfl
  | ⟨1, _⟩ => rfl

theorem rowX_apply (j : Fin 8192) : rowX y (ix2 0 j) = cloudT y j 0 := by
  unfold rowX
  rw [View.ld_unit]
  refine extractStridedSlice_apply _ _ _ _ _ fun a => ?_
  match a with
  | ⟨0, _⟩ => rfl
  | ⟨1, _⟩ => exact (Nat.zero_add _).symm

theorem rowY_apply (j : Fin 8192) : rowY y (ix2 0 j) = cloudT y j 1 := by
  unfold rowY
  rw [View.ld_unit]
  refine extractStridedSlice_apply _ _ _ _ _ fun a => ?_
  match a with
  | ⟨0, _⟩ => rfl
  | ⟨1, _⟩ => exact (Nat.zero_add _).symm

theorem rowZ_apply (j : Fin 8192) : rowZ y (ix2 0 j) = cloudT y j 2 := by
  unfold rowZ
  rw [View.ld_unit]
  refine extractStridedSlice_apply _ _ _ _ _ fun a => ?_
  match a with
  | ⟨0, _⟩ => rfl
  | ⟨1, _⟩ => exact (Nat.zero_add _).symm

/-- The tile of trip `k` holds the squared distances from the points of block `k`. -/
theorem tile_eq (k : Fin k0_t1_loop.trips) (r : Fin 256) (j : Fin 8192) :
    k0_pay10 (k0_pay4 (rowX y) (rowY y) (rowZ y)) (k0_pay5 (rowX y)) (k0_pay6 (rowY y)) (k0_pay7 (rowZ y))
        (colX x k) (colY x k) (colZ x k) (ix2 r j)
      = dist (cloud x) (cloudT y) (point (block k) r) j := by
  rw [tile_apply, sq_apply, x_apply, y_apply, z_apply, colX_apply, colY_apply, colZ_apply, rowX_apply, rowY_apply,
    rowZ_apply]
  rfl

end Loads

/-- The sum of the distances from the points of block `q` to the second cloud. -/
def blockSum (P T : Cloud) (q : Fin 32) : EReal := ∑ r : Fin 256, toT P T (point q r)

/-- The least distance from point `j` of the second cloud to the points of block `q`. -/
def blockMin (P T : Cloud) (j : Fin 8192) (q : Fin 32) : EReal := Finset.univ.inf fun r : Fin 256 => dist P T (point q r) j

section Carried

variable (c : Dev nD) (a0 : Memref sig .tc .vmem S8192x3 .f32) (h0 : a0.IsWhole) (a1 : Memref sig .tc .vmem S3x8192 .f32)
  (h1 : a1.IsWhole) (a2 : Memref sig .tc .vmem S1x1 .f32) (h2 : a2.IsWhole) (x : Vec Ideal S8192x3 .f32)
  (y : Vec Ideal S3x8192 .f32)

/-- What the loop carries after `k` trips, in closed form. -/
theorem carried_eq (k : ℕ) (hk : k ≤ 32) :
    (carried c a0 h0 a1 h1 a2 h2 x y k).1 = ∑ q ∈ before k, blockSum (cloud x) (cloudT y) q
      ∧ ∀ j : Fin 8192, (carried c a0 h0 a1 h1 a2 h2 x y k).2 (ix2 0 j)
          = (before k).inf (blockMin (cloud x) (cloudT y) j) := by
  induction k with
  | zero =>
    rw [before_zero]
    exact ⟨Ideal.ofBits_zero_f32, fun j => start_apply (ix2 0 j)⟩
  | succ k ih =>
    obtain ⟨hs, hm⟩ := ih (Nat.le_of_succ_le hk)
    have step := (st_k0_t1_succ Variants.none c none a0 h0 a1 h1 a2 h2 (rowX y) (rowY y) (rowZ y) (h0.unread x)
      (FloatOps.ofBits FTy.f32 0#32, k0_pay8) ⟨k, by rw [trips_eq]; exact hk⟩).trans (tripR_eq ..)
    have sumStep := sum_before_succ ⟨k, hk⟩ (blockSum (cloud x) (cloudT y))
    refine ⟨(congrArg Prod.fst step).trans ?_, fun j => (congrFun (congrArg Prod.snd step) _).trans ?_⟩
    · refine (sum_step ..).trans (Eq.trans ?_ sumStep.symm)
      refine congrArg₂ (· + ·) hs (Finset.sum_congr rfl fun r _ => Finset.inf_congr rfl fun j _ => ?_)
      exact tile_eq x y _ r j
    · refine (min_step ..).trans (Eq.trans ?_ (inf_before_succ ⟨k, hk⟩ (blockMin (cloud x) (cloudT y) j)).symm)
      refine congrArg₂ min (hm j) (Finset.inf_congr rfl fun r _ => ?_)
      exact tile_eq x y _ r j

/-- The block the kernel stores is the chamfer loss of the two clouds it holds. -/
theorem out_loss (i : S1x1.Idx) :
    out0_A_2 c a0 h0 a1 h1 a2 h2 x y i = loss (cloud x) (cloudT y) := by
  obtain ⟨hs, hm⟩ := carried_eq c a0 h0 a1 h1 a2 h2 x y 32 le_rfl
  rw [before_all] at hs
  simp only [before_all] at hm
  rw [out_eq, last_apply, trips_eq, hs, Finset.sum_congr rfl fun j _ => hm j]
  refine congrArg₂ (fun s t => Ideal.div s (Ideal.ofBits .f32 0x46000000#32) + Ideal.div t (Ideal.ofBits .f32 0x46000000#32))
    (sum_blocks _).symm (Finset.sum_congr rfl fun j _ => (inf_blocks fun i => dist (cloud x) (cloudT y) i j).symm)

end Carried

end Cert.KernelIdeal.Val

end
-- ==== Proof.Val.Launch.lean ====
/-
  THE LAUNCH: the result array's one block is the whole array, so it ends at what the body stores; the host slices both
  arguments and transposes the second before the launch and reshapes the one-entry array to a scalar after it. So the
  program's result is the chamfer loss of the clouds in its arguments.
-/
module

public import proofs.«01_k».proof.Proof.Val.Loop
public import Idealize.ShloMosaic.Lib.StableHlo.Run

@[expose] public section

noncomputable section

namespace Cert.KernelIdeal.Val

open Cert.KernelIdeal Cert.KernelIdeal.Gen Cert.Chamfer Idealize.ShloMosaic Idealize.ShloMosaic.TcCoe
open Idealize.ShloMosaic.ValueIdx Idealize.SL.Sem

variable (m : (ℓ : Loc nD τ sig) → Buf (Elt Ideal) ℓ) (ρ : Dev nD → PrngReg)

/-- The cloud of an argument: the first three of each point's four entries. -/
def argCloud (A : Vec Ideal S8192x4 .f32) : Cloud := fun i a => A (ix2 i (a.castLE (by decide)))

/-- The kernel's loss on device `c`, from its arguments. -/
def value (c : Dev nD) : EReal :=
  loss (argCloud (m ((c : Thread nD τ).loc main_arg0))) (argCloud (m ((c : Thread nD τ).loc main_arg1)))

/-! ## The arrays the launch finds -/

theorem V_main_v0 (c : Dev nD) : V m c main_v0
    = extractStridedSlice S8192x3 ![0, 0] (m ((c : Thread nD τ).loc main_arg0)) slices_S8192x4_S8192x3_0_0 := by
  show StableHlo.after hostOps0 _ _ = _
  unfold hostOps0
  after_results_simp

theorem V_main_v2 (c : Dev nD) : V m c main_v2
    = transpose S3x8192 [1, 0] (extractStridedSlice S8192x3 ![0, 0] (m ((c : Thread nD τ).loc main_arg1))
        slices_S8192x4_S8192x3_0_0) transposes_S8192x3_S3x8192_1_0 := by
  show StableHlo.after hostOps0 _ _ = _
  unfold hostOps0
  after_results_simp

/-- The first three entries of each point, sliced out of an argument. -/
theorem slice_apply (A : Vec Ideal S8192x4 .f32) (h : S8192x4.Slices ![0, 0] S8192x3) (i : Fin 8192) (a : Fin 3) :
    extractStridedSlice S8192x3 ![0, 0] A h (ix2 i a) = argCloud A i a := by
  refine extractStridedSlice_apply _ _ _ _ _ fun ax => ?_
  match ax with
  | ⟨0, _⟩ => exact (Nat.zero_add _).symm
  | ⟨1, _⟩ => exact (Nat.zero_add _).symm

/-- The first window's block is its whole array. -/
theorem iblk0 (c : Dev nD) (t : Fin cfg0.N) : iblk m c 0 t = V m c main_v0 := by
  obtain rfl := fin_N0 t
  have hz' : (fun a => win0_0.index t0_0 a * main_v0.ty.shape.size a) = fun _ => 0 := funext fun a => by fin_cases a <;> decide
  exact Memref.read_access_unit_zero (Elt Ideal) main_v0 hz' (fun a => by rw [congrFun hz' a]; simp) (V m c main_v0)

/-- The second window's block is its whole array. -/
theorem iblk1 (c : Dev nD) (t : Fin cfg0.N) : iblk m c 1 t = V m c main_v2 := by
  obtain rfl := fin_N0 t
  have hz' : (fun a => win0_1.index t0_0 a * main_v2.ty.shape.size a) = fun _ => 0 := funext fun a => by fin_cases a <;> decide
  exact Memref.read_access_unit_zero (Elt Ideal) main_v2 hz' (fun a => by rw [congrFun hz' a]; simp) (V m c main_v2)

/-- What the body stores, as contents of the result array. -/
theorem stored_eq (c : Dev nD) (t : Fin cfg0.N) : outsAt0 m c t = fun _ => value m c := by
  funext i
  unfold outsAt0
  rw [out_loss, iblk0, iblk1, V_main_v0, V_main_v2]
  unfold value
  congr 1
  · funext i a; exact slice_apply _ _ i a
  · funext j a; exact (transpose_ix2_apply _ _ a j).trans (slice_apply _ _ j a)

/-! ## The result array -/

/-- The loss as contents of the one-entry result array. -/
abbrev result (c : Dev nD) : Buf (Elt Ideal) ((c : Thread nD τ).loc main_v3) := fun _ : S1x1.Idx => value m c

/-- The one write-back writes it. -/
theorem flushed_eq (c : Dev nD) (t : Fin cfg0.N) (_hf : (cfg0.win 2).flush t = true) :
    (dats m 0 c).flushed 2 t = ((cfg0.win 2).blk t).view.read (Elt Ideal) (result m c) := by
  obtain rfl := fin_N0 t
  show (cfg0.win 2).cut (grid0.coords t0_0) ((dats m 0 c).after 2 t0_0) = _
  rw [after0_2, stored_eq]
  have hz' : (fun a => win0_2.index t0_0 a * main_v3.ty.shape.size a) = fun _ => 0 := funext fun a => by fin_cases a <;> decide
  exact (Memref.read_access_unit_zero (Elt Ideal) main_v3 hz' (fun a => by rw [congrFun hz' a]; simp) (result m c)).symm

/-- So the result array ends at it: the one block covers the array. -/
theorem final_o (c : Dev nD) : (dats m 0 c).arrAt 2 cfg0.N = result m c :=
  (dats m 0 c).arrAt_eq_of_cover 2 (result m c) (flushed_eq m c) fun i =>
    ⟨t0_0, flush0_2 t0_0, by
      show i ∈ ((View.whole main_v3).slice (win0_2.rect t0_0)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_0 0 * win0_2.size 0 ≤ (i 0 : Nat)
          ∧ (i 0 : Nat) < win0_2.index t0_0 0 * win0_2.size 0 + win0_2.xsize (grid0.coords t0_0) 0
        rw [show win0_2.index t0_0 0 * win0_2.size 0 = 0 from by decide +kernel,
          show win0_2.xsize (grid0.coords t0_0) 0 = 1 from by decide +kernel]
        omega
      | ⟨1, _⟩ =>
        show win0_2.index t0_0 1 * win0_2.size 1 ≤ (i 1 : Nat)
          ∧ (i 1 : Nat) < win0_2.index t0_0 1 * win0_2.size 1 + win0_2.xsize (grid0.coords t0_0) 1
        rw [show win0_2.index t0_0 1 * win0_2.size 1 = 0 from by decide +kernel,
          show win0_2.xsize (grid0.coords t0_0) 1 = 1 from by decide +kernel]
        omega⟩

/-! ## The scalar result -/

/-- The reshape after the launch reads the result array's one entry. -/
theorem tail_eq (c : Dev nD) :
    Pipeline.afterTail₀ cfgs (dats m) 0 (V0 m) [hostOps1] c main_v4 = fun _ : S_.Idx => value m c := by
  unfold Pipeline.afterTail₀
  show StableHlo.after hostOps1 _ _ = _
  unfold hostOps1
  after_results_simp
  have e : Pipeline.withArrays (cfgs 0).spec c (V0 m c) (fun w => (dats m 0 c).arrAt w (cfgs 0).N)
      (Proc.devRef .tc (Pipeline.arrRef (cfgs 0).spec 2)) = result m c :=
    (Pipeline.withArrays_arr (cfgs 0).spec (by decide) c (V0 m c) _ 2).trans (final_o m c)
  funext i
  exact congrFun e _

/-- Every fair execution of the program ends with the chamfer loss of its two arguments as its result, the arguments
    unchanged. -/
theorem run : θ_run defs (onTc (τ := τ) (main (F := Ideal))) ⟨m, fun _ => 0, ρ⟩ fun r => ∀ c : Dev nD,
      r.2.mem ((c : Thread nD τ).loc main_v4) = (fun _ : S_.Idx => value m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Val

end
-- ==== Proof.Val.Reference.lean ====
/-
  THE REFERENCE over the extended reals: the matrix of squared distances the host builds, its row and column minima and
  their two means, read as the chamfer loss.
-/
module

public import proofs.«01_k».proof.Proof.Val.Chamfer
public import proofs.«01_k».proof.Proof.Gen.ReferenceIdeal.Run
public import Idealize.ShloMosaic.Lib.Pipeline.Value
public import Idealize.ShloMosaic.Lib.IdealHost
public import Idealize.ShloMosaic.Lib.ValueIdx
public import Idealize.ShloMosaic.Lib.ValueIdxRank1
public import Idealize.ShloMosaic.Lib.ValueLayout

@[expose] public section

noncomputable section

namespace Cert.ReferenceIdeal.Val

open Cert.ReferenceIdeal Cert.ReferenceIdeal.Gen Cert.Chamfer Idealize.ShloMosaic Idealize.ShloMosaic.ValueIdx

/-- The cloud a block of rows of coordinates holds. -/
def cloud (x : FVec Ideal S8192x3 .f32) : Cloud := fun i a => x (ix2 i a)

/-! ## The squared lengths -/

/-- The row sums of a block's squares. -/
abbrev sqs (p : FVec Ideal S8192x3 .f32) : FVec Ideal S8192 .f32 :=
  Host.reduceAdd (mulf p p) (constant S_ .f32 0x00000000#32) reducesTo_S8192x3_S8192_d1 h_S_

theorem sqs_apply (p : FVec Ideal S8192x3 .f32) (i : Fin 8192) : sqs p (ix1 i) = sqLen (cloud p) i := by
  unfold sqs
  rw [hostReduceAdd_apply, Ideal.hostReduceAdd_single (h := by decide), constant_apply, Ideal.ofBits_zero_f32, zero_add]
  have h : S8192x3.Reduces [1] S8192 := by decide
  have e : ∀ a : Fin 3, mulf p p (h.lift (ix1 i) a) = cloud p i a * cloud p i a := fun a =>
    congrArg (fun k => p k * p k) (show h.lift (ix1 i) a = ix2 i a from funext fun c => match c with
      | ⟨0, _⟩ => rfl
      | ⟨1, _⟩ => rfl)
  refine (Fin.sum_univ_three _).trans ?_
  exact congrArg₂ (· + ·) (congrArg₂ (· + ·) (e 0) (e 1)) (e 2)

/-! ## The inner products -/

/-- The product of one block with the other transposed. -/
abbrev dots (p t : FVec Ideal S8192x3 .f32) : FVec Ideal S8192x8192 .f32 :=
  Host.dotGeneral dot_S8192x3_S3x8192_S8192x8192_1_0_0_1_n_n none p
    (transpose S3x8192 [1, 0] t transposes_S8192x3_S3x8192_1_0)

theorem dots_apply (p t : FVec Ideal S8192x3 .f32) (i j : Fin 8192) :
    dots p t (ix2 i j) = inner (cloud p) (cloud t) i j := by
  unfold dots
  simp only [Host.dotGeneral]
  rw [Ideal.dotGeneral_apply,
    ← Equiv.sum_comp (contrEquiv1 dot_S8192x3_S3x8192_S8192x8192_1_0_0_1_n_n 3 rfl rfl).symm]
  have e : ∀ a : Fin 3, p (dot_S8192x3_S3x8192_S8192x8192_1_0_0_1_n_n.lhsIdx (ix2 i j)
        ((contrEquiv1 dot_S8192x3_S3x8192_S8192x8192_1_0_0_1_n_n 3 rfl rfl).symm a))
      * transpose S3x8192 [1, 0] t transposes_S8192x3_S3x8192_1_0 (dot_S8192x3_S3x8192_S8192x8192_1_0_0_1_n_n.rhsIdx (ix2 i j)
        ((contrEquiv1 dot_S8192x3_S3x8192_S8192x8192_1_0_0_1_n_n 3 rfl rfl).symm a))
      = cloud p i a * cloud t j a := fun a => by
    refine congrArg₂ (· * ·) (congrArg p (funext fun c => ?_)) (Eq.trans (congrArg _ (funext fun c => ?_))
      (transpose_ix2_apply t transposes_S8192x3_S3x8192_1_0 a j))
    · match c with
      | ⟨0, _⟩ => rfl
      | ⟨1, _⟩ => rfl
    · match c with
      | ⟨0, _⟩ => rfl
      | ⟨1, _⟩ => rfl
  refine (Fin.sum_univ_three _).trans ?_
  exact congrArg₂ (· + ·) (congrArg₂ (· + ·) (e 0) (e 1)) (e 2)

/-! ## The matrix of squared distances -/

/-- The host's matrix: the squared lengths broadcast along rows and columns, less twice the products, cut off at zero. -/
abbrev dists (p t : FVec Ideal S8192x3 .f32) : FVec Ideal S8192x8192 .f32 :=
  maximumf
    (subf
      (addf
        (broadcastInDim S8192x8192 ![0, 1] bcast_S8192x1_S8192x8192_0_1 (broadcastInDim S8192x1 ![0] bcast_S8192_S8192x1_0 (sqs p)))
        (broadcastInDim S8192x8192 ![0, 1] bcast_S1x8192_S8192x8192_0_1 (broadcastInDim S1x8192 ![1] bcast_S8192_S1x8192_1 (sqs t))))
      (mulf (broadcastInDim S8192x8192 ![] bcast_S_S8192x8192 (constant S_ .f32 0x40000000#32)) (dots p t)))
    (broadcastInDim S8192x8192 ![] bcast_S_S8192x8192 (constant S_ .f32 0x00000000#32))

theorem dists_apply (p t : FVec Ideal S8192x3 .f32) (i j : Fin 8192) :
    dists p t (ix2 i j) = dist (cloud p) (cloud t) i j := by
  unfold dists
  rw [maximumf_apply, subf_apply, addf_apply, mulf_apply, dots_apply, broadcastInDim_scalar_apply,
    broadcastInDim_scalar_apply, constant_apply, constant_apply, Ideal.ofBits_zero_f32]
  have e1 : broadcastInDim S8192x8192 ![0, 1] bcast_S8192x1_S8192x8192_0_1
      (broadcastInDim S8192x1 ![0] bcast_S8192_S8192x1_0 (sqs p)) (ix2 i j) = sqLen (cloud p) i := by
    refine (broadcastInDim_apply _ _ _ _ (ix2 i (0 : Fin 1)) fun a => ?_).trans
      ((broadcastInDim_apply _ _ _ _ (ix1 i) fun a => ?_).trans (sqs_apply p i))
    · match a with
      | ⟨0, _⟩ => rfl
      | ⟨1, _⟩ => rfl
    · match a with
      | ⟨0, _⟩ => rfl
  have e2 : broadcastInDim S8192x8192 ![0, 1] bcast_S1x8192_S8192x8192_0_1
      (broadcastInDim S1x8192 ![1] bcast_S8192_S1x8192_1 (sqs t)) (ix2 i j) = sqLen (cloud t) j := by
    refine (broadcastInDim_apply _ _ _ _ (ix2 (0 : Fin 1) j) fun a => ?_).trans
      ((broadcastInDim_apply _ _ _ _ (ix1 j) fun a => ?_).trans (sqs_apply t j))
    · match a with
      | ⟨0, _⟩ => rfl
      | ⟨1, _⟩ => rfl
    · match a with
      | ⟨0, _⟩ => rfl
  rw [e1, e2]
  rfl

/-! ## The minima and their means -/

/-- The host's row minima are the distances from the first cloud's points to the second cloud. -/
theorem rows_apply (p t : FVec Ideal S8192x3 .f32) (i : Fin 8192) :
    Host.reduce FloatOps.minimumf (dists p t) (constant S_ .f32 0x7F800000#32) reducesTo_S8192x8192_S8192_d1 h_S_ (ix1 i)
      = toT (cloud p) (cloud t) i := by
  refine (Host.reduce_eq_fold_single (FloatOps.minimumf (F := Ideal) (φ := .f32)) (dists p t) _ _ (by decide) _ _).trans ?_
  refine (fold_min _ _).trans (Finset.inf_congr rfl fun j _ => ?_)
  refine Eq.trans (congrArg (dists p t) (funext fun c => ?_)) (dists_apply p t i j)
  match c with
  | ⟨0, _⟩ => rfl
  | ⟨1, _⟩ => rfl

/-- The host's column minima are the distances from the second cloud's points to the first cloud. -/
theorem cols_apply (p t : FVec Ideal S8192x3 .f32) (j : Fin 8192) :
    Host.reduce FloatOps.minimumf (dists p t) (constant S_ .f32 0x7F800000#32) reducesTo_S8192x8192_S8192_d0 h_S_ (ix1 j)
      = toP (cloud p) (cloud t) j := by
  refine (Host.reduce_eq_fold_single (FloatOps.minimumf (F := Ideal) (φ := .f32)) (dists p t) _ _ (by decide) _ _).trans ?_
  refine (fold_min _ _).trans (Finset.inf_congr rfl fun i _ => ?_)
  refine Eq.trans (congrArg (dists p t) (funext fun c => ?_)) (dists_apply p t i j)
  match c with
  | ⟨0, _⟩ => rfl
  | ⟨1, _⟩ => rfl

/-- The host's sum of a vector, from zero, is the sum of its entries. -/
theorem total_apply (v : FVec Ideal S8192 .f32) (i : S_.Idx) :
    Host.reduceAdd v (constant S_ .f32 0x00000000#32) reducesTo_S8192_S_d0 h_S_ i = ∑ k : Fin 8192, v (ix1 k) := by
  rw [hostReduceAdd_apply, Ideal.hostReduceAdd_total _ (fun b => b.elim0), constant_apply, Ideal.ofBits_zero_f32, zero_add]
  exact (Equiv.sum_comp (idxEquiv1 (n := 8192)).symm v).symm

/-- The reference's term, at the two sliced clouds, is their chamfer loss; its last factor is one. -/
theorem term_apply (p t : FVec Ideal S8192x3 .f32) (i : S_.Idx) :
    mulf
      (addf
        (Host.divf
          (Host.reduceAdd
            (Host.reduce FloatOps.minimumf (dists p t) (constant S_ .f32 0x7F800000#32) reducesTo_S8192x8192_S8192_d1 h_S_)
            (constant S_ .f32 0x00000000#32) reducesTo_S8192_S_d0 h_S_)
          (constant S_ .f32 0x46000000#32))
        (Host.divf
          (Host.reduceAdd
            (Host.reduce FloatOps.minimumf (dists p t) (constant S_ .f32 0x7F800000#32) reducesTo_S8192x8192_S8192_d0 h_S_)
            (constant S_ .f32 0x00000000#32) reducesTo_S8192_S_d0 h_S_)
          (constant S_ .f32 0x46000000#32)))
      (constant S_ .f32 0x3F800000#32) i
      = loss (cloud p) (cloud t) := by
  rw [mulf_apply, addf_apply, hostDivf_apply, hostDivf_apply, total_apply, total_apply, constant_apply, constant_apply,
    Ideal.ofBits_one_f32, mul_one]
  unfold loss
  exact congrArg₂ (fun s t => Ideal.div s (Ideal.ofBits .f32 0x46000000#32) + Ideal.div t (Ideal.ofBits .f32 0x46000000#32))
    (Finset.sum_congr rfl fun i _ => rows_apply p t i) (Finset.sum_congr rfl fun j _ => cols_apply p t j)

end Cert.ReferenceIdeal.Val

end
-- ==== Proof.lean ====
/-
  THE PROOF of `Cert.Claim`: the kernel, its ideal form and the reference each run to the end with their arguments and
  counters as they must be; the ideal form changes nothing; and over the extended reals the kernel's scalar result is the
  reference's, both being the chamfer loss of the two argument clouds (Proof/Val/Chamfer.lean `Cert.Chamfer.loss`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Val.Launch
public import proofs.«01_k».proof.Proof.Val.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to the end, its arguments unchanged; it has no counter, so every counter is zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that agree on the arguments, both programs end with one scalar: the chamfer loss. -/
theorem algebraic : Cert.algebraic_KernelIdeal_ReferenceIdeal := by
  intro m ρ m' ρ' _ hagree
  refine ⟨fun c => fun _ => Cert.KernelIdeal.Val.value m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  funext i
  refine (Cert.ReferenceIdeal.Val.term_apply _ _ i).trans ?_
  rw [(hagree c).1, (hagree c).2]
  exact congrArg₂ Cert.Chamfer.loss (funext₂ fun i a => Cert.KernelIdeal.Val.slice_apply _ _ i a)
    (funext₂ fun j a => Cert.KernelIdeal.Val.slice_apply _ _ j a)

/-- Every claim of this certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
